-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x256 : Shape := ⟨2, ![8192, 256]⟩
abbrev S4x8192x256 : Shape := ⟨3, ![4, 8192, 256]⟩
abbrev S512x256 : Shape := ⟨2, ![512, 256]⟩
abbrev S4x512x256 : Shape := ⟨3, ![4, 512, 256]⟩
abbrev S1x512x256 : Shape := ⟨3, ![1, 512, 256]⟩

abbrev nBuf : Space → Nat
  | .hbm => 3
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S8192x256, .f32⟩
  | .hbm, ⟨2, _⟩ => ⟨S4x8192x256, .f32⟩
  | .local _ .vmem, ⟨0, _⟩ => ⟨S512x256, .f32⟩
  | .local _ .vmem, ⟨1, _⟩ => ⟨S512x256, .f32⟩
  | .local _ .vmem, ⟨2, _⟩ => ⟨S4x512x256, .f32⟩
  | .local _ .vmem, ⟨3, _⟩ => ⟨S4x512x256, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x8192 : Shape := ⟨2, ![4, 8192]⟩
abbrev S8192x256 : Shape := ⟨2, ![8192, 256]⟩
abbrev S1x8192x256 : Shape := ⟨3, ![1, 8192, 256]⟩
abbrev S1x1x1x8192x1x256 : Shape := ⟨6, ![1, 1, 1, 8192, 1, 256]⟩
abbrev S4x1x1x8192x1x256 : Shape := ⟨6, ![4, 1, 1, 8192, 1, 256]⟩
abbrev S4x8192x256 : Shape := ⟨3, ![4, 8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x256, .f32⟩
  | .hbm, ⟨2, _⟩ => ⟨S1x8192x256, .f32⟩
  | .hbm, ⟨3, _⟩ => ⟨S1x1x1x8192x1x256, .f32⟩
  | .hbm, ⟨4, _⟩ => ⟨S4x1x1x8192x1x256, .f32⟩
  | .hbm, ⟨5, _⟩ => ⟨S4x8192x256, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Repeat.lean ====
/-
  The problem's function, with no program in it: a table of 8192 rows of 256 numbers, repeated 4 times along a new
  leading axis. `repeated W` is that array, and `tile_eq` says that `jnp.tile(W[None, :, :], (4, 1, 1))`, as the four
  layout operations that it lowers to, is `repeated W`.
-/
module

public import Idealize.ShloMosaic.Lib.Pipeline.Value
public import Idealize.ShloMosaic.Lib.ValueIdxRank6

@[expose] public section

noncomputable section

namespace Cert.Repeat

open Idealize.ShloMosaic

/-- The shape of the embedding table. -/
abbrev Table : Shape := ⟨2, ![8192, 256]⟩
/-- The shape of the result: one table per element of the batch. -/
abbrev Batch : Shape := ⟨3, ![4, 8192, 256]⟩
/-- The table with a leading unit axis. -/
abbrev Table1 : Shape := ⟨3, ![1, 8192, 256]⟩
/-- The shape in which `jnp.tile` pairs each axis with its repetition count: the counts are all 1 here, -/
abbrev Paired1 : Shape := ⟨6, ![1, 1, 1, 8192, 1, 256]⟩
/-- and here the batch's count is 4. -/
abbrev Paired4 : Shape := ⟨6, ![4, 1, 1, 8192, 1, 256]⟩

variable {α : Type}

/-- Where an element of the result comes from: its row and column, whatever its batch coordinate. -/
def tableIx (i : Batch.Idx) : Table.Idx
  | ⟨0, _⟩ => i 1
  | ⟨1, _⟩ => i 2

/-- The table repeated along the batch: element `(b, s, d)` is `W (s, d)`. -/
def repeated (W : Table.Idx → α) : Batch.Idx → α := fun i => W (tableIx i)

/-- The element of the 6-axis array with repetition counts that element `(b, s, d)` of the result is. -/
def paired4Ix (i : Batch.Idx) : Paired4.Idx
  | ⟨0, _⟩ => i 0
  | ⟨1, _⟩ => ⟨0, Nat.one_pos⟩
  | ⟨2, _⟩ => ⟨0, Nat.one_pos⟩
  | ⟨3, _⟩ => i 1
  | ⟨4, _⟩ => ⟨0, Nat.one_pos⟩
  | ⟨5, _⟩ => i 2

/-- The same before the repetition: the batch coordinate is 0. -/
def paired1Ix (i : Batch.Idx) : Paired1.Idx
  | ⟨0, _⟩ => ⟨0, Nat.one_pos⟩
  | ⟨1, _⟩ => ⟨0, Nat.one_pos⟩
  | ⟨2, _⟩ => ⟨0, Nat.one_pos⟩
  | ⟨3, _⟩ => i 1
  | ⟨4, _⟩ => ⟨0, Nat.one_pos⟩
  | ⟨5, _⟩ => i 2

/-- The same in the table with its leading unit axis. -/
def table1Ix (i : Batch.Idx) : Table1.Idx
  | ⟨0, _⟩ => ⟨0, Nat.one_pos⟩
  | ⟨1, _⟩ => i 1
  | ⟨2, _⟩ => i 2

/-- `jnp.tile` of the table is the table repeated: its broadcast, reshape, broadcast and reshape, each read at the
    element that the one after it reads, keep the row and the column and forget the batch coordinate. -/
theorem tile_eq (h₁ : Table.BroadcastsInDim Table1 ![1, 2]) (h₂ : Table1.ShapeCasts Paired1)
    (h₃ : Paired1.BroadcastsInDim Paired4 ![0, 1, 2, 3, 4, 5]) (h₄ : Paired4.ShapeCasts Batch) (W : Table.Idx → α) :
    shapeCast Batch (broadcastInDim Paired4 ![0, 1, 2, 3, 4, 5] h₃
      (shapeCast Paired1 (broadcastInDim Table1 ![1, 2] h₁ W) h₂)) h₄ = repeated W := by
  funext i
  refine (shapeCast_apply _ h₄ i (paired4Ix i) ?_).trans ?_
  · rw [Shape.rowMajor_val_six, Shape.rowMajor_val_three]
    show (((((i 0).val * 1 + 0) * 1 + 0) * 8192 + (i 1).val) * 1 + 0) * 256 + (i 2).val
      = ((i 0).val * 8192 + (i 1).val) * 256 + (i 2).val
    omega
  refine (broadcastInDim_apply _ h₃ _ (paired4Ix i) (paired1Ix i) ?_).trans ?_
  · intro a; fin_cases a <;> rfl
  refine (shapeCast_apply _ h₂ (paired1Ix i) (table1Ix i) ?_).trans ?_
  · rw [Shape.rowMajor_val_six, Shape.rowMajor_val_three]
    show (0 * 8192 + (i 1).val) * 256 + (i 2).val
      = ((((0 * 1 + 0) * 1 + 0) * 8192 + (i 1).val) * 1 + 0) * 256 + (i 2).val
    omega
  exact broadcastInDim_apply _ h₁ W (table1Ix i) (tableIx i) (by intro a; fin_cases a <;> rfl)

end Cert.Repeat

end
-- ==== Proof.KernelIdealValue.lean ====
/-
  What the idealized kernel computes, at any float values: its result array ends as its table repeated along the batch.
  Grid point `t` stages rows `512 t … 512 t + 511` of the table and writes back the same rows of all four copies
  (`flushed_eq`); the 16 points' blocks tile the result (`cover`); so the whole array is `repeated W` (`final`).
-/
module

public import proofs.«01_k».proof.Proof.Gen.KernelIdeal.Value
public import proofs.«01_k».proof.Proof.Repeat

@[expose] public section

noncomputable section

namespace Cert.KernelIdeal.Table

open Cert.KernelIdeal Cert.KernelIdeal.Gen Cert.Repeat Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Device `c`'s table, repeated along the batch. -/
abbrev result (c : Dev nD) : Buf (Elt F) ((c : Thread nD τ).loc main_v0) :=
  repeated (m ((c : Thread nD τ).loc main_arg1))

/-- Point `t` writes back block `t` of the repeated table: element `(b, r, d)` of the staged result is element
    `(r, d)` of the staged rows, and the two windows stand at the same row of their arrays. -/
theorem flushed_eq (c : Dev nD) (t : Fin cfg0.N) :
    (dats m 0 c).flushed 1 t = (win0_1.blk t).view.read (Elt F) (result m c) := by
  rw [Value.flushed1]
  unfold out0_1
  rw [View.ld_unit_zero (funext fun a => by fin_cases a <;> rfl)]
  funext y
  refine (Value.canon1_eq _ y).trans ?_
  show V m c main_arg1 _ = m ((c : Thread nD τ).loc main_arg1) _
  rw [V_main_arg1]
  refine congrArg _ (funext fun a => Fin.ext ?_)
  fin_cases a <;> rfl

/-- The rows of the result that point `t` writes: `512 t … 512 t + 511`, of every copy and every column. -/
theorem mem_blk (t : Fin cfg0.N) (i : S4x8192x256.Idx) :
    i ∈ ((cfg0.win 1).blk t).view.set ↔ t.val * 512 ≤ (i 1).val ∧ (i 1).val < t.val * 512 + 512 := by
  show i ∈ ((View.whole main_v0).slice (win0_1.rect t)).set ↔ _
  rw [View.set_slice_whole, Rect.mem_set_unit]
  have e : ∀ t : Fin grid0.N, win0_1.index t 0 = 0 ∧ win0_1.index t 1 = t.val ∧ win0_1.index t 2 = 0 := by
    decide +kernel
  obtain ⟨e0, e1, e2⟩ := e t
  have b0 : (i 0).val < 4 := (i 0).isLt
  have b2 : (i 2).val < 256 := (i 2).isLt
  constructor
  · intro h
    have h1 : win0_1.index t 1 * 512 ≤ (i 1).val ∧ (i 1).val < win0_1.index t 1 * 512 + 512 := h 1
    rwa [e1] at h1
  · intro h a
    match a with
    | ⟨0, _⟩ => show win0_1.index t 0 * 4 ≤ (i 0).val ∧ (i 0).val < win0_1.index t 0 * 4 + 4
                rw [e0]; omega
    | ⟨1, _⟩ => show win0_1.index t 1 * 512 ≤ (i 1).val ∧ (i 1).val < win0_1.index t 1 * 512 + 512
                rw [e1]; exact h
    | ⟨2, _⟩ => show win0_1.index t 2 * 256 ≤ (i 2).val ∧ (i 2).val < win0_1.index t 2 * 256 + 256
                rw [e2]; omega

/-- Every element of the result is in the block of the point of its row, which writes it back. -/
theorem cover (i : S4x8192x256.Idx) :
    ∃ t : Fin cfg0.N, (cfg0.win 1).flush t = true ∧ i ∈ ((cfg0.win 1).blk t).view.set := by
  have h : (i 1).val < 8192 := (i 1).isLt
  have hN : grid0.N = 16 := by decide
  refine ⟨⟨(i 1).val / 512, by show _ < grid0.N; omega⟩, flush0_1 _, (mem_blk _ i).mpr ?_⟩
  dsimp only
  omega

/-- The result array after the last point is the repeated table. -/
theorem final (c : Dev nD) : (dats m 0 c).arrAt 1 cfg0.N = result m c :=
  (dats m 0 c).arrAt_eq_of_cover 1 (result m c) (fun t _ => flushed_eq m c t) cover

/-- The kernel's run: the result is the repeated table, and the arguments are as they were. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Table

end
-- ==== Proof.lean ====
/-
  The kernel that repeats a positional-embedding table along the batch, against `jnp.tile`. The frames of the kernels
  are generated; the references' frames are read from their generated runs. The two value claims set the kernel's run
  (`KernelValue.lean`, `KernelIdealValue.lean`: the result is the table repeated) beside the reference's
  (`Repeat.lean`: `jnp.tile` is the table repeated), over the extended reals and word for word.
-/
module

public import proofs.«01_k».proof.Defs
public import proofs.«01_k».proof.Proof.KernelValue
public import proofs.«01_k».proof.Proof.KernelIdealValue
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The reference's frame, at words: a host program has no semaphore. -/
theorem frame_R : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- The idealized reference's frame. -/
theorem frame_RI : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, kernel and reference both end with the table repeated along the batch. -/
theorem algebraic : Cert.algebraic_KernelIdeal_ReferenceIdeal := by
  intro m ρ m' ρ' _ hagree
  refine ⟨Cert.KernelIdeal.Table.result m, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  refine (Cert.Repeat.tile_eq _ _ _ _ _).trans ?_
  exact congrArg Cert.Repeat.repeated (hagree c).2

/-- The same of the words: the kernel's result is the reference's, bit for bit, whatever the words stand for. -/
theorem bitexact : Cert.bitexact_Kernel_Reference := by
  intro m ρ m' ρ' _ hagree
  refine ⟨Cert.Kernel.Table.result m, Cert.Kernel.Table.run m ρ, ?_⟩
  refine (θ_run Cert.Reference.defs _ _).mono (fun _ h c => ⟨(h c).1.trans ?_, (h c).2⟩)
    (Cert.Reference.Value.run (F := Bits) m' ρ')
  refine (Cert.Repeat.tile_eq _ _ _ _ _).trans ?_
  exact congrArg Cert.Repeat.repeated (hagree c).2

/-- Every claim of the certificate. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ, frame_RI, frame_R,
    trivial, algebraic, bitexact⟩

end Cert.Proof

end
